-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S8192x3072 : Shape := ⟨2, ![8192, 3072]⟩
abbrev S3072 : Shape := ⟨1, ![3072]⟩
abbrev S128x8192 : Shape := ⟨2, ![128, 8192]⟩
abbrev S1x3072 : Shape := ⟨2, ![1, 3072]⟩
abbrev S128x3072 : Shape := ⟨2, ![128, 3072]⟩
abbrev S8192x256 : Shape := ⟨2, ![8192, 256]⟩
abbrev S1x256 : Shape := ⟨2, ![1, 256]⟩
abbrev S128x256 : Shape := ⟨2, ![128, 256]⟩
abbrev S128x1x3072 : Shape := ⟨3, ![128, 1, 3072]⟩

abbrev nBuf : Space → Nat
  | .hbm => 7
  | .vmem => 7
  | .smem => 0
  | _ => 0

abbrev bufTy : (tb : Table) → Fin (tcTables nBuf tb) → BufTy
  | .hbm, ⟨0, _⟩ => ⟨S128x1x8192, .bf16⟩
  | .hbm, ⟨1, _⟩ => ⟨S8192x3072, .i8⟩
  | .hbm, ⟨2, _⟩ => ⟨S3072, .f32⟩
  | .hbm, ⟨3, _⟩ => ⟨S128x8192, .bf16⟩
  | .hbm, ⟨4, _⟩ => ⟨S1x3072, .f32⟩
  | .hbm, ⟨5, _⟩ => ⟨S128x3072, .bf16⟩
  | .hbm, ⟨6, _⟩ => ⟨S128x1x3072, .bf16⟩
  | .local _ .vmem, ⟨0, _⟩ => ⟨S128x8192, .bf16⟩
  | .local _ .vmem, ⟨1, _⟩ => ⟨S8192x256, .i8⟩
  | .local _ .vmem, ⟨2, _⟩ => ⟨S8192x256, .i8⟩
  | .local _ .vmem, ⟨3, _⟩ => ⟨S1x256, .f32⟩
  | .local _ .vmem, ⟨4, _⟩ => ⟨S1x256, .f32⟩
  | .local _ .vmem, ⟨5, _⟩ => ⟨S128x256, .bf16⟩
  | .local _ .vmem, ⟨6, _⟩ => ⟨S128x256, .bf16⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x8192 : Shape := ⟨3, ![128, 1, 8192]⟩
abbrev S8192x3072 : Shape := ⟨2, ![8192, 3072]⟩
abbrev S3072 : Shape := ⟨1, ![3072]⟩
abbrev S1x3072 : Shape := ⟨2, ![1, 3072]⟩
abbrev S128x1x3072 : Shape := ⟨3, ![128, 1, 3072]⟩

abbrev nBuf : Space → Nat
  | .hbm => 11
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S8192x3072, .i8⟩
  | .hbm, ⟨2, _⟩ => ⟨S3072, .f32⟩
  | .hbm, ⟨3, _⟩ => ⟨S8192x3072, .i32⟩
  | .hbm, ⟨4, _⟩ => ⟨S8192x3072, .bf16⟩
  | .hbm, ⟨5, _⟩ => ⟨S3072, .bf16⟩
  | .hbm, ⟨6, _⟩ => ⟨S1x3072, .bf16⟩
  | .hbm, ⟨7, _⟩ => ⟨S8192x3072, .bf16⟩
  | .hbm, ⟨8, _⟩ => ⟨S8192x3072, .bf16⟩
  | .hbm, ⟨9, _⟩ => ⟨S128x1x3072, .f32⟩
  | .hbm, ⟨10, _⟩ => ⟨S128x1x3072, .bf16⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelValue.lean ====
/- What the kernel computes over the extended reals: its (128, 3072) result array, column block by column block, is the
   product of the activations with the weights, each weight an int8 code times its column's scale. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.LinearValue

open Cert.KernelIdeal Cert.KernelIdeal.Gen

variable (m : (ℓ : Loc nD τ sig) → Buf (Elt Ideal) ℓ)

/-- A code as an extended real. -/
def codeValue (b : BitVec 8) : EReal := FloatOps.sitofp (F := Ideal) .bf16 b

/-- It is the signed integer that the code's bits spell. -/
theorem codeValue_eq (b : BitVec 8) : codeValue b = ((b.toInt : ℝ) : EReal) := rfl

/-- The linear layer at row `i 0` and output channel `i 1`: the sum over the input channels `k` of the activation
    times the weight, which is the code at `(k, i 1)` times channel `i 1`'s scale. -/
def linear (X : FVec Ideal S128x1x8192 .bf16) (C : Vec Ideal S8192x3072 .i8) (s : FVec Ideal S3072 .f32) :
    FVec Ideal S128x3072 .bf16 :=
  fun i => ∑ k : Fin 8192, X (ix3 (i 0) (0 : Fin 1) k) * (codeValue (C (ix2 k (i 1))) * s (ix1 (i 1)))

/-- The block of each window at grid point `t`: the activations whole, and column block `t` of the codes, the scales
    and the result. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The activations as the grid finds them: the argument with its middle axis, of length one, dropped. -/
theorem V_main_v0 (c : Dev nD) : V m c main_v0
    = shapeCast S128x8192 (m ((c : Thread nD τ).loc main_arg0) : FVec Ideal S128x1x8192 .bf16) shapeCasts_S128x1x8192_S128x8192 := by
  entry_read; rfl

/-- The scales as the grid finds them: the argument as one row. -/
theorem V_main_v1 (c : Dev nD) : V m c main_v1
    = shapeCast S1x3072 (m ((c : Thread nD τ).loc main_arg2) : FVec Ideal S3072 .f32) shapeCasts_S3072_S1x3072 := by
  entry_read; rfl

/-- Dropping the middle axis of the activations, at an index. -/
theorem dropMiddle_at (X : FVec Ideal S128x1x8192 .bf16) (j : S128x8192.Idx) :
    shapeCast S128x8192 X shapeCasts_S128x1x8192_S128x8192 j = X (ix3 (j 0) (0 : Fin 1) (j 1)) := by
  pointwise

/-- The scales as one row, at an index. -/
theorem oneRow_at (s : FVec Ideal S3072 .f32) (j : S1x3072.Idx) :
    shapeCast S1x3072 s shapeCasts_S3072_S1x3072 j = s (ix1 (j 1)) := by
  pointwise

/-- What the body stores at index `y` of its block, at grid point `t`, is the linear layer at the array index where
    `y` sits. -/
theorem point (c : Dev nD) (t : Fin cfg0.N) (y) :
    k0_pay1 (iblk m c 2 t) (iblk m c 1 t) (iblk m c 0 t) y
      = linear (m ((c : Thread nD τ).loc main_arg0)) (m ((c : Thread nD τ).loc main_arg1)) (m ((c : Thread nD τ).loc main_arg2))
          (((cfg0.win 3).blk t).view.emb y) := by
  pointwise [k0_pay1, linear, codeValue]
  blk_point [iblk, V_main_arg1, idx t]
  · rw [V_main_v0]
    refine (dropMiddle_at _ _).trans ?_
    blk_ext [idx t]
  · rw [V_main_v1]
    refine (oneRow_at _ _).trans ?_
    blk_ext [idx t]

/-- The result array after the grid is the linear layer of the arguments: the twelve column blocks tile it. -/
theorem final (c : Dev nD) : (dats m 0 c).arrAt 3 cfg0.N
    = linear (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The one operation after the grid, from any buffer contents: it reshapes the result array. -/
theorem reshape_after (W : Valuation τ sig (Elt Ideal)) : StableHlo.after (hostOps1 (F := Ideal)) W (Proc.devRef .tc main_v3)
    = shapeCast S128x1x3072 (W (Proc.devRef .tc main_v2) : FVec Ideal S128x3072 .bf16) shapeCasts_S128x3072_S128x1x3072 := by
  after_results
  rfl

/-- The program's result: the reshape after the grid gives the linear layer's array a middle axis of length one. -/
theorem result (c : Dev nD) : Pipeline.afterTail₀ cfgs (dats m) 0 (V0 m) [hostOps1] c main_v3
    = shapeCast S128x1x3072 (linear (m ((c : Thread nD τ).loc main_arg0)) (m ((c : Thread nD τ).loc main_arg1))
        (m ((c : Thread nD τ).loc main_arg2))) shapeCasts_S128x3072_S128x1x3072 := by
  unfold Pipeline.afterTail₀
  have h : Pipeline.withArrays (cfgs 0).spec c (V0 m c) (fun w => (dats m 0 c).arrAt w (cfgs 0).N) (Proc.devRef .tc main_v2)
      = linear (m ((c : Thread nD τ).loc main_arg0)) (m ((c : Thread nD τ).loc main_arg1)) (m ((c : Thread nD τ).loc main_arg2)) :=
    (Pipeline.withArrays_arr (cfgs 0).spec launch0.win.arr_inj c (V0 m c) _ 3).trans (final m c)
  refine (reshape_after _).trans ?_
  rw [h]

/-- The run of the kernel, read: the result at the linear layer of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3)
        = shapeCast S128x1x3072 (linear (m ((c : Thread nD τ).loc main_arg0)) (m ((c : Thread nD τ).loc main_arg1))
            (m ((c : Thread nD τ).loc main_arg2))) shapeCasts_S128x3072_S128x1x3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v3 (Pipeline.mem_restRefs_of main_v3 (by decide) (by decide))).trans (result m c), h.2 c⟩)
    (θ_run_and (run_main m ρ) (unchanged m ρ))

end Cert.KernelIdeal.LinearValue

end
-- ==== Proof.ReferenceValue.lean ====
/- The kernel's result against the reference's, over the extended reals: both are the linear layer, the one as a
   (128, 3072) array given a middle axis of length one, the other as one product of the (128, 1, 8192) activations with the
   scaled codes. -/
module

public import proofs.«01_k».proof.Proof.KernelValue
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.LinearValue

open Cert.ReferenceIdeal Cert.ReferenceIdeal.Gen
open Cert.KernelIdeal.LinearValue (linear codeValue)

/-- What the reference computes of its arguments: the codes as bf16 numbers times the scales along the columns, and the
    product of the activations with that. -/
def reference (X : FVec Ideal S128x1x8192 .bf16) (C : Vec Ideal S8192x3072 .i8) (s : FVec Ideal S3072 .f32) :
    FVec Ideal S128x1x3072 .bf16 :=
  truncf .bf16 (Host.dotGeneral dot_S128x1x8192_S8192x3072_S128x1x3072_2_0_01_1_n_n none X
    (mulf (sitofp .bf16 (extsi 32 C natLt_8_32))
      (broadcastInDim S8192x3072 ![0, 1] bcast_S1x3072_S8192x3072_0_1
        (broadcastInDim S1x3072 ![1] bcast_S3072_S1x3072_1 (truncf .bf16 s bitsLt_bf16_f32))))) bitsLt_bf16_f32

/-- Widening a code to 32 bits first does not change its value. -/
theorem sitofp_extsi (b : BitVec 8) :
    FloatOps.sitofp (F := Ideal) .bf16 (b.signExtend 32) = codeValue b := by
  show (((b.signExtend 32).toInt : ℝ) : EReal) = ((b.toInt : ℝ) : EReal)
  rw [BitVec.toInt_signExtend_of_le (by decide)]

/-- The linear layer, its (128, 3072) array read as (128, 1, 3072), is what the reference computes. -/
theorem linear_eq_reference (X : FVec Ideal S128x1x8192 .bf16) (C : Vec Ideal S8192x3072 .i8) (s : FVec Ideal S3072 .f32) :
    shapeCast S128x1x3072 (linear X C s) Cert.KernelIdeal.Gen.shapeCasts_S128x3072_S128x1x3072 = reference X C s := by
  funext i
  pointwise [reference, linear]
  simp only [sitofp_extsi]
  refine Finset.sum_congr rfl fun k _ => ?_
  congr 1
  blk_ext

end Cert.ReferenceIdeal.LinearValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates without fault, leaves its arguments unchanged and every semaphore at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function over the extended reals. -/
theorem algebraic : Cert.algebraic_KernelIdeal_ReferenceIdeal := by
  intro m g m' g' _ hagree
  refine ⟨_, Cert.KernelIdeal.LinearValue.run m g, ?_⟩
  refine (θ_run Cert.ReferenceIdeal.defs _ _).mono (fun _ h c => ⟨(h c).1.trans ?_, (h c).2⟩)
    (Cert.ReferenceIdeal.Value.run (F := Ideal) m' g')
  rw [(hagree c).1, (hagree c).2.1, (hagree c).2.2]
  exact (Cert.ReferenceIdeal.LinearValue.linear_eq_reference _ _ _).symm

/-- Everything that is claimed: the three frames, the ideal program's origin, and the equation of kernel and reference. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
